-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S524288x6x8 : Shape := ⟨3, ![524288, 6, 8]⟩
abbrev S6x8x524288 : Shape := ⟨3, ![6, 8, 524288]⟩
abbrev S48x524288 : Shape := ⟨2, ![48, 524288]⟩
abbrev S8x262144 : Shape := ⟨2, ![8, 262144]⟩
abbrev S8x128 : Shape := ⟨2, ![8, 128]⟩

abbrev nBuf : Space → Nat
  | .hbm => 6
  | .vmem => 4
  | .smem => 0
  | _ => 0

abbrev bufTy : (tb : Table) → Fin (tcTables nBuf tb) → BufTy
  | .hbm, ⟨0, _⟩ => ⟨S524288x6x8, .f32⟩
  | .hbm, ⟨1, _⟩ => ⟨S6x8x524288, .f32⟩
  | .hbm, ⟨2, _⟩ => ⟨S48x524288, .f32⟩
  | .hbm, ⟨3, _⟩ => ⟨S48x524288, .f32⟩
  | .hbm, ⟨4, _⟩ => ⟨S6x8x524288, .f32⟩
  | .hbm, ⟨5, _⟩ => ⟨S524288x6x8, .f32⟩
  | .local _ .vmem, ⟨0, _⟩ => ⟨S8x262144, .f32⟩
  | .local _ .vmem, ⟨1, _⟩ => ⟨S8x262144, .f32⟩
  | .local _ .vmem, ⟨2, _⟩ => ⟨S8x262144, .f32⟩
  | .local _ .vmem, ⟨3, _⟩ => ⟨S8x262144, .f32⟩
  | _, _ => ⟨S524288x6x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S524288x6x8 : Shape := ⟨3, ![524288, 6, 8]⟩
abbrev S7 : Shape := ⟨1, ![7]⟩
abbrev S48 : Shape := ⟨1, ![48]⟩
abbrev S_ : Shape := ⟨0, ![]⟩
abbrev S6x8 : Shape := ⟨2, ![6, 8]⟩
abbrev S7x6x8 : Shape := ⟨3, ![7, 6, 8]⟩
abbrev S7x1 : Shape := ⟨2, ![7, 1]⟩

abbrev nBuf : Space → Nat
  | .hbm => 20
  | .vmem => 0
  | .smem => 0
  | _ => 0

abbrev bufTy : (tb : Table) → Fin (tcTables nBuf tb) → BufTy
  | .hbm, ⟨0, _⟩ => ⟨S524288x6x8, .f32⟩
  | .hbm, ⟨1, _⟩ => ⟨S7, .i32⟩
  | .hbm, ⟨2, _⟩ => ⟨S48, .f32⟩
  | .hbm, ⟨3, _⟩ => ⟨S_, .f32⟩
  | .hbm, ⟨4, _⟩ => ⟨S48, .f32⟩
  | .hbm, ⟨5, _⟩ => ⟨S48, .f32⟩
  | .hbm, ⟨6, _⟩ => ⟨S_, .f32⟩
  | .hbm, ⟨7, _⟩ => ⟨S48, .f32⟩
  | .hbm, ⟨8, _⟩ => ⟨S48, .f32⟩
  | .hbm, ⟨9, _⟩ => ⟨S6x8, .f32⟩
  | .hbm, ⟨10, _⟩ => ⟨S7x6x8, .f32⟩
  | .hbm, ⟨11, _⟩ => ⟨S_, .i32⟩
  | .hbm, ⟨12, _⟩ => ⟨S7, .i32⟩
  | .hbm, ⟨13, _⟩ => ⟨S7, .i1⟩
  | .hbm, ⟨14, _⟩ => ⟨S_, .i32⟩
  | .hbm, ⟨15, _⟩ => ⟨S7, .i32⟩
  | .hbm, ⟨16, _⟩ => ⟨S7, .i32⟩
  | .hbm, ⟨17, _⟩ => ⟨S7, .i32⟩
  | .hbm, ⟨18, _⟩ => ⟨S7x1, .i32⟩
  | .hbm, ⟨19, _⟩ => ⟨S524288x6x8, .f32⟩
  | _, _ => ⟨S524288x6x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Block.lean ====
/- What the kernel's region leaves in its result array, index by index: the row's number in the first seven
   columns, the operand elsewhere. -/
module

public import proofs.«01_k».proof.Proof.Gen.KernelIdeal.Frame
public import Idealize.ShloMosaic.PureOps.Ideal
public import Idealize.ShloMosaic.Lib.Pipeline.ValueKit
public import Idealize.ShloMosaic.Lib.ValueIdx
public import Idealize.ShloMosaic.Lib.WordArith

@[expose] public section

set_option maxRecDepth 16384

noncomputable section

namespace Cert.Put

open Cert.KernelIdeal Cert.KernelIdeal.Gen Idealize.ShloMosaic Idealize.ShloMosaic.TcCoe Idealize.ShloMosaic.ValueIdx

/-- The table's rows over the first seven columns: element `(r, n)` is the number `r` where `n < 7`, and `x (r, n)`
    elsewhere. -/
def put (x : S48x524288.Idx → Ideal .f32) : S48x524288.Idx → Ideal .f32 :=
  fun i => if (i 1).val < 7 then (((i 0).val : ℝ) : EReal) else x i

/-! ## One block -/

/-- The first store's payload is the block that was loaded. -/
theorem pay1_eq (x : Vec Ideal S8x262144 .f32) : k0_pay1 x = x := by
  unfold k0_pay1
  exact shapeCast_self _ _

/-- The idealized conversion of an integer word is its signed value. -/
theorem sitofp_int (b : BitVec 32) : FloatOps.sitofp (F := Ideal) .f32 b = ((b.toInt : ℝ) : EReal) := rfl

/-- The second store's payload at an index: the row's number in the whole array (eight rows to a block of rows) in the
    first seven lanes, what was loaded in the others. -/
theorem pay2_apply (i : grid0.Coords) (v : Vec Ideal S8x128 .f32) (y : S8x128.Idx) :
    k0_pay2 i v y = if (y 1).val < 7 then (((8 * (i 0).val + (y 0).val : ℕ) : ℝ) : EReal) else v y := by
  have hi : (i 0).val < 6 := (i 0).isLt
  have h0 : (y 0).val < 8 := (y 0).isLt
  have h1 : (y 1).val < 128 := (y 1).isLt
  unfold k0_pay2
  rw [shapeCast_self]
  rw [select_apply]
  have hc : cmpi CmpIPredicate.slt (iota Kind.tc S8x128 32 [1] iota_S8x128_d1_w32) (broadcast S8x128 7#32) y
      = BitVec.ofBool (decide ((y 1).val < 7)) := by
    refine Eq.trans ?_ (WordCmp.cmpi_slt_ofNat (w := 32) (a := (y 1).val) (b := 7) (by omega) (by omega))
    show IntOp.cmpi _ (iota Kind.tc S8x128 32 [1] iota_S8x128_d1_w32 y) _ = _
    rw [WordCmp.iota_at]
    simp
    rfl
  have hs : addi (iota Kind.tc S8x128 32 [0] iota_S8x128_d0_w32)
      (broadcast S8x128 (Scalar.muli (BitVec.ofNat 32 (i 0).val) 8#32)) y
      = BitVec.ofNat 32 (8 * (i 0).val + (y 0).val) := by
    show IntOp.addi (iota Kind.tc S8x128 32 [0] iota_S8x128_d0_w32 y)
      (IntOp.muli (BitVec.ofNat 32 (i 0).val) (BitVec.ofNat 32 8)) = _
    rw [WordCmp.iota_at, WordCmp.muli_ofNat, WordCmp.addi_ofNat]
    congr 1
    simp
    omega
  rw [hc, WordCmp.select_decide, sitofp_apply, hs, sitofp_int,
    WordArith.toInt_ofNat_small _ (by omega)]
  norm_cast

/-- What a point of the first block of columns leaves: the row's number in the first seven columns of the block, the
    operand's block elsewhere. -/
theorem blockA (i : grid0.Coords) (x : Vec Ideal S8x262144 .f32) (y : S8x262144.Idx) :
    View.canon (Val := Elt Ideal) (e := .f32)
      [⟨Rect.unit (s := S8x262144) ![0, 0] ![8, 128] inb_S8x262144_S8x128_0_0,
          k0_pay2 i (View.ld x (Rect.unit ![0, 0] ![8, 128] inb_S8x262144_S8x128_0_0))⟩,
        ⟨Rect.unit ![0, 0] ![8, 262144] inb_S8x262144_S8x262144_0_0, k0_pay1 x⟩] y
      = if (y 1).val < 7 then (((8 * (i 0).val + (y 0).val : ℕ) : ℝ) : EReal) else x y := by
  have hrest : View.canon (Val := Elt Ideal) (e := .f32)
      [⟨Rect.unit (s := S8x262144) ![0, 0] ![8, 262144] inb_S8x262144_S8x262144_0_0, k0_pay1 x⟩] = x := by
    rw [pay1_eq]
    exact View.canon_cons_unit_lit (S := S8x262144) _ x [] (by decide)
  have h0 : (y 0).val < 8 := (y 0).isLt
  by_cases h : (y 1).val < 128
  · let z : S8x128.Idx := fun a => match a with
      | ⟨0, _⟩ => ⟨(y 0).val, h0⟩
      | ⟨1, _⟩ => ⟨(y 1).val, h⟩
    have hz : (Rect.unit (s := S8x262144) ![0, 0] ![8, 128] inb_S8x262144_S8x128_0_0).emb z = y := by
      refine funext fun a => Fin.ext ?_
      fin_cases a <;> simp [z]
    have hv : View.ld x (Rect.unit (s := S8x262144) ![0, 0] ![8, 128] inb_S8x262144_S8x128_0_0) z = x y := by
      exact Eq.trans (b := x ((Rect.unit (s := S8x262144) ![0, 0] ![8, 128] inb_S8x262144_S8x128_0_0).emb z)) rfl
        (congrArg x hz)
    have hp := pay2_apply i (View.ld x (Rect.unit (s := S8x262144) ![0, 0] ![8, 128] inb_S8x262144_S8x128_0_0)) z
    rw [hv] at hp
    refine Eq.trans ?_ hp
    conv_lhs => rw [← hz]
    exact View.canon_cons_emb (Val := Elt Ideal) (e := .f32)
      (Rect.unit (s := S8x262144) ![0, 0] ![8, 128] inb_S8x262144_S8x128_0_0) _ _ z
  · rw [View.canon_cons_of_not_mem _ _ (by
      rw [Rect.mem_set_unit]
      exact fun hm => h (by have := (hm 1).2; simpa using this)), hrest, if_neg (by omega)]

/-! ## The whole array -/

variable (m : (ℓ : Loc nD τ sig) → Buf (Elt Ideal) ℓ)

/-- Where the blocks of both windows lie: at the point's two coordinates. -/
theorem idx : ∀ t : Fin grid0.N, (win0_0.index t = ![t.val / 2, t.val % 2] ∧ win0_1.index t = ![t.val / 2, t.val % 2])
    ∧ (grid0.coords t 0).val = t.val / 2 := by
  decide +kernel

/-- The result array after the region is `put` of the array that the region reads. -/
theorem final (c : Dev nD) : (dats m 0 c).arrAt 1 cfg0.N = put (V m c main_v1) := by
  refine (dats m 0 c).arrAt_eq_of_covers 1 _ (by decide +kernel) fun t hf y => ?_
  blk_simp
  rw [after0_1]
  have hy0 : (y 0).val < 8 := (y 0).isLt
  have hy1 : (y 1).val < 262144 := (y 1).isLt
  obtain ⟨⟨e0, e1⟩, e2⟩ := idx t
  unfold put
  by_cases h : t.val % 2 = 0
  · rw [outsAt0_A m c t h]
    frame_out
    refine (blockA _ _ y).trans ?_
    blk_simp [iblk, e0, e1, e2]
    rw [Nat.mul_comm 8, h, Nat.zero_mul, Nat.zero_add]
    congr 2
    blk_ext [e0, e1]
  · rw [outsAt0_B m c t h]
    frame_out
    rw [pay1_eq]
    blk_simp [iblk, e0, e1, e2]
    rw [if_neg (by omega)]
    congr 1
    blk_ext [e0, e1]

end Cert.Put

end
-- ==== Proof.Spec.lean ====
module

public import Idealize.ShloMosaic.PureOps.Ideal

/-!
The result that both programs compute.
-/

@[expose] public section

noncomputable section

namespace Cert.Put

open Idealize.ShloMosaic

/-- The result, as a function of the argument: the entry's row-major number in its slab for the first seven slabs, the
    argument's entry for the others. -/
def spec (x : (⟨3, ![524288, 6, 8]⟩ : Shape).Idx → Ideal .f32) : (⟨3, ![524288, 6, 8]⟩ : Shape).Idx → Ideal .f32 :=
  fun i => if (i 0).val < 7 then (((8 * (i 1).val + (i 2).val : ℕ) : ℝ) : EReal) else x i

end Cert.Put

end
-- ==== Proof.Result.lean ====
module

public import proofs.«01_k».proof.Proof.Block
public import proofs.«01_k».proof.Proof.Spec
public import Idealize.ShloMosaic.Lib.StableHlo.Run

/-!
The kernel's result buffer after the whole run: the lines before the region lay the argument out as 48 rows of 524288,
the region writes the row numbers over the first seven columns, and the lines after it lay the array out as the argument
was.
-/

@[expose] public section

set_option maxRecDepth 16384

noncomputable section

namespace Cert.Put

open Cert.KernelIdeal Cert.KernelIdeal.Gen Idealize.ShloMosaic Idealize.ShloMosaic.TcCoe
open Idealize.ShloMosaic.StableHlo

/-! ## The layouts -/

/-- The argument laid out as the region reads it. -/
def rows (x : S524288x6x8.Idx → Ideal .f32) : S48x524288.Idx → Ideal .f32 :=
  shapeCast S48x524288 (transpose S6x8x524288 [1, 2, 0] x transposes_S524288x6x8_S6x8x524288_1_2_0)
    shapeCasts_S6x8x524288_S48x524288

/-- An array of rows laid out as the result. -/
def back (y : S48x524288.Idx → Ideal .f32) : S524288x6x8.Idx → Ideal .f32 :=
  transpose S524288x6x8 [2, 0, 1] (shapeCast S6x8x524288 y shapeCasts_S48x524288_S6x8x524288)
    transposes_S6x8x524288_S524288x6x8_2_0_1

/-- The row of an entry of the argument. -/
def rowOf (i : S524288x6x8.Idx) : Fin 48 :=
  ⟨8 * (i 1).val + (i 2).val, by
    have h1 : (i 1).val < 6 := (i 1).isLt
    have h2 : (i 2).val < 8 := (i 2).isLt
    omega⟩

/-- Both layouts of an entry of 6 by 8 by 524288 have it at the same row-major place. -/
theorem place (i : S524288x6x8.Idx) :
    (S48x524288.rowMajor (ix2 (rowOf i) (i 0))).val = (S6x8x524288.rowMajor (ix3 (i 1) (i 2) (i 0))).val := by
  refine (Shape.rowMajor_val_two _).trans (Eq.trans ?_ (Shape.rowMajor_val_three _).symm)
  show (8 * (i 1).val + (i 2).val) * 524288 + (i 0).val = ((i 1).val * 8 + (i 2).val) * 524288 + (i 0).val
  omega

/-- The result layout at an entry. -/
theorem back_apply (y : S48x524288.Idx → Ideal .f32) (i : S524288x6x8.Idx) : back y i = y (ix2 (rowOf i) (i 0)) := by
  unfold back
  rw [transpose_apply [2, 0, 1] _ transposes_S6x8x524288_S524288x6x8_2_0_1 i (ix3 (i 1) (i 2) (i 0))
      (fun b => by fin_cases b <;> rfl),
    shapeCast_apply _ shapeCasts_S48x524288_S6x8x524288 _ (ix2 (rowOf i) (i 0)) (place i)]

/-- The argument's layout at the place of an entry. -/
theorem rows_apply (x : S524288x6x8.Idx → Ideal .f32) (i : S524288x6x8.Idx) : rows x (ix2 (rowOf i) (i 0)) = x i := by
  unfold rows
  rw [shapeCast_apply _ shapeCasts_S6x8x524288_S48x524288 _ (ix3 (i 1) (i 2) (i 0)) (place i).symm]
  exact transpose_apply [1, 2, 0] x transposes_S524288x6x8_S6x8x524288_1_2_0 _ i (fun b => by fin_cases b <;> rfl)

/-- Laying the argument out in rows, writing the row numbers and laying the rows back out gives the stated result. -/
theorem back_put_rows (x : S524288x6x8.Idx → Ideal .f32) : back (put (rows x)) = spec x := by
  refine funext fun i => ?_
  rw [back_apply]
  unfold put spec
  rw [rows_apply]
  rfl

/-! ## The run -/

variable (m : (ℓ : Loc nD τ sig) → Buf (Elt Ideal) ℓ)

/-- The array that the region reads. -/
theorem entry (c : Dev nD) : V m c main_v1 = rows (m ((c : Thread nD τ).loc main_arg0)) := by
  unfold rows
  after_results <;> rfl

/-- The result buffer after the lines that follow the region. -/
theorem result (c : Dev nD) :
    Pipeline.afterTail₀ cfgs (dats m) 0 (V0 m) [hostOps1] c main_v4 = spec (m ((c : Thread nD τ).loc main_arg0)) := by
  rw [← back_put_rows, ← entry m c, ← final m c]
  unfold Pipeline.afterTail₀
  have hw := Pipeline.withArrays_arr spec0 (by decide) c (V0 m c) (fun w => (dats m 0 c).arrAt w cfg0.N) 1
  refine Eq.trans (b := back (Pipeline.withArrays spec0 c (V0 m c) (fun w => (dats m 0 c).arrAt w cfg0.N)
    (Proc.devRef .tc main_v2))) ?_ (congrArg back hw)
  unfold back
  after_results <;> rfl

end Cert.Put

end
-- ==== Proof.Reference.lean ====
module

public import proofs.«01_k».proof.Proof.Gen.ReferenceIdeal.Run
public import proofs.«01_k».proof.Proof.Spec
public import Idealize.ShloMosaic.Lib.IdealHost
public import Idealize.ShloMosaic.Lib.WordArith
public import Idealize.ShloMosaic.Lib.Pipeline.Value
public import Idealize.ShloMosaic.Lib.Routing.OpsSet

/-!
The reference's scatter, read at an index. The table that it writes is the number of each entry of a 6 by 8 array in
row-major order; it is written over the slabs that the seven index words name, and those are the first seven slabs in
some order. So every slab below 7 is the table and the others are the operand's.
-/

@[expose] public section

set_option maxRecDepth 16384

noncomputable section

namespace Cert.Put

open Cert.ReferenceIdeal Cert.ReferenceIdeal.Gen Idealize.ShloMosaic Idealize.ShloMosaic.ValueIdx

/-! ## The index words -/

/-- The seven index words, as the reference computes them from its constant (a word below zero would count from the
    end; none is). -/
def words : IVec S7x1 32 :=
  broadcastInDim S7x1 ![0] bcast_S7_S7x1_0
    (select (cmpi .slt (fun i => lit0 (S7.rowMajor i)) (broadcastInDim S7 ![] bcast_S_S7 (constantI S_ 32 0#32)))
      (addi (fun i => lit0 (S7.rowMajor i)) (broadcastInDim S7 ![] bcast_S_S7 (constantI S_ 32 524288#32)))
      (fun i => lit0 (S7.rowMajor i)))

/-- The number that each word of the constant holds. -/
def slab : Fin 7 → ℕ := ![1, 0, 3, 2, 4, 6, 5]

/-- Each index word, read signed, is the number of its slab. -/
theorem words_toInt (j : S7x1.Idx) : (words j).toInt = (slab (j 0) : Int) := by
  have hw : words j = Scalar.select (IntOp.cmpi .slt (lit0 (j 0)) 0#32) (IntOp.addi (lit0 (j 0)) 524288#32) (lit0 (j 0)) := by
    have hr : S7.rowMajor (ix1 (j 0)) = (j 0 : Fin 7) := Fin.ext (Shape.rowMajor_val_one _)
    unfold words
    refine (broadcastInDim_apply _ bcast_S7_S7x1_0 _ j (ix1 (j 0)) (fun a => by fin_cases a; rfl)).trans ?_
    show Scalar.select (IntOp.cmpi .slt (lit0 (S7.rowMajor (ix1 (j 0)))) 0#32)
      (IntOp.addi (lit0 (S7.rowMajor (ix1 (j 0)))) 524288#32) (lit0 (S7.rowMajor (ix1 (j 0)))) = _
    rw [hr]
  rw [hw]
  generalize (j 0 : Fin 7) = a
  revert a
  decide +kernel

/-- Every slab number is below 7. -/
theorem slab_lt (a : Fin 7) : slab a < 7 := by
  revert a
  decide +kernel

/-- Every number below 7 is the number of a slab. -/
theorem slab_surj (n : ℕ) (h : n < 7) : ∃ a : Fin 7, slab a = n := by
  have key : ∀ n : Fin 7, ∃ a : Fin 7, slab a = n.val := by decide +kernel
  exact key ⟨n, h⟩

/-! ## Where an update lands -/

/-- An update lands at the slab that its index word names, at its own place in the slab. -/
theorem lands (k : S7x6x8.Idx) (i : S524288x6x8.Idx) :
    scatter_S524288x6x8_S7x1_S7x6x8_12_0_0_1.resultIdx? k words = some i
      ↔ slab (k 0) = (i 0).val ∧ (k 1).val = (i 1).val ∧ (k 2).val = (i 2).val := by
  have s0 : scatter_S524288x6x8_S7x1_S7x6x8_12_0_0_1.start k words 0 = (slab (k 0) : Int) := by
    refine Eq.trans ?_ (words_toInt (ix2 (k 0) 0))
    refine congrArg (fun j => (words j).toInt) (funext fun a => Fin.ext ?_)
    fin_cases a <;> rfl
  have s1 : scatter_S524288x6x8_S7x1_S7x6x8_12_0_0_1.start k words 1 = 0 := rfl
  have s2 : scatter_S524288x6x8_S7x1_S7x6x8_12_0_0_1.start k words 2 = 0 := rfl
  have w0 : scatter_S524288x6x8_S7x1_S7x6x8_12_0_0_1.window k 0 = 0 := rfl
  have w1 : scatter_S524288x6x8_S7x1_S7x6x8_12_0_0_1.window k 1 = (k 1).val := rfl
  have w2 : scatter_S524288x6x8_S7x1_S7x6x8_12_0_0_1.window k 2 = (k 2).val := rfl
  rw [Routing.resultIdx?_eq_some]
  constructor
  · intro h
    have h0 := h 0
    have h1 := h 1
    have h2 := h 2
    rw [s0, w0] at h0
    rw [s1, w1] at h1
    rw [s2, w2] at h2
    exact ⟨by omega, by omega, by omega⟩
  · rintro ⟨h0, h1, h2⟩ a
    match a with
    | ⟨0, _⟩ => exact (congrArg₂ (fun (p : Int) (q : ℕ) => p + (q : Int)) s0 w0).trans (by simpa using h0)
    | ⟨1, _⟩ => exact (congrArg₂ (fun (p : Int) (q : ℕ) => p + (q : Int)) s1 w1).trans (by simpa using h1)
    | ⟨2, _⟩ => exact (congrArg₂ (fun (p : Int) (q : ℕ) => p + (q : Int)) s2 w2).trans (by simpa using h2)

/-! ## What is written -/

/-- The updates as the reference computes them: seven copies of the numbers 0 to 47, each `0 + 1 * n`, laid out 6 by
    8. -/
def table : FVec Ideal S7x6x8 .f32 :=
  broadcastInDim S7x6x8 ![1, 2] bcast_S6x8_S7x6x8_1_2
    (shapeCast _ (addf (broadcastInDim S48 ![] bcast_S_S48 (constant S_ .f32 0x00000000#32))
      (mulf (broadcastInDim S48 ![] bcast_S_S48 (constant S_ .f32 0x3F800000#32)) (sitofp .f32 (iotaInDim S48 32 0))))
      shapeCasts_S48_S6x8)

/-- The vector of numbers, at an index. -/
theorem arange_apply (n : S48.Idx) :
    addf (F := Ideal) (φ := .f32) (broadcastInDim S48 ![] bcast_S_S48 (constant S_ .f32 0x00000000#32))
      (mulf (broadcastInDim S48 ![] bcast_S_S48 (constant S_ .f32 0x3F800000#32)) (sitofp .f32 (iotaInDim S48 32 0))) n
      = (((n 0).val : ℝ) : EReal) := by
  have hn : (n 0).val < 48 := (n 0).isLt
  rw [addf_apply, mulf_apply, sitofp_apply, iotaInDim_apply]
  show Ideal.ofBits .f32 0x00000000#32 + Ideal.ofBits .f32 0x3F800000#32 * (((BitVec.ofNat 32 (n 0).val).toInt : ℝ) : EReal) = _
  rw [Ideal.ofBits_zero_f32, Ideal.ofBits_one_f32, zero_add, one_mul, WordArith.toInt_ofNat_small _ (by omega)]
  norm_cast

/-- An update's entry is the number of its place in the slab. -/
theorem table_apply (k : S7x6x8.Idx) : table k = (((8 * (k 1).val + (k 2).val : ℕ) : ℝ) : EReal) := by
  have h1 : (k 1).val < 6 := (k 1).isLt
  have h2 : (k 2).val < 8 := (k 2).isLt
  unfold table
  refine (broadcastInDim_apply _ bcast_S6x8_S7x6x8_1_2 _ k (ix2 (k 1) (k 2)) (fun a => by fin_cases a <;> rfl)).trans ?_
  refine (shapeCast_apply _ shapeCasts_S48_S6x8 (ix2 (k 1) (k 2)) (ix1 ⟨8 * (k 1).val + (k 2).val, by omega⟩) ?_).trans
    (arange_apply _)
  refine (Shape.rowMajor_val_one _).trans (Eq.trans ?_ (Shape.rowMajor_val_two _).symm)
  show 8 * (k 1).val + (k 2).val = (k 1).val * 8 + (k 2).val
  omega

/-- The reference's scatter is the result stated above. -/
theorem scatter_eq (x : S524288x6x8.Idx → Ideal .f32) :
    Host.scatter scatter_S524288x6x8_S7x1_S7x6x8_12_0_0_1 (fun _ b => b) x words table = spec x := by
  refine funext fun i => ?_
  unfold spec
  by_cases h : (i 0).val < 7
  · rw [if_pos h]
    obtain ⟨a, ha⟩ := slab_surj (i 0).val h
    refine Routing.scatter_set_hit _ x words table i _ (fun k hk => ?_) (ix3 a (i 1) (i 2)) ((lands _ i).2 ⟨ha, rfl, rfl⟩)
    obtain ⟨-, h1, h2⟩ := (lands k i).1 hk
    rw [table_apply, h1, h2]
  · rw [if_neg h]
    exact Routing.scatter_set_miss _ x words table i fun k hk => h (((lands k i).1 hk).1 ▸ slab_lt (k 0))

end Cert.Put

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Result
public import proofs.«01_k».proof.Proof.Reference
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The kernel's run: the result buffer ends at the stated result of the argument, and the argument is unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal))
      (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v4)
            = Cert.Put.spec (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  (θ_run _ _ _).mono (fun _ h c =>
    ⟨((h c).2 Cert.KernelIdeal.main_v4 (Pipeline.mem_restRefs_of Cert.KernelIdeal.main_v4 (by decide) (by decide))).trans
        (Cert.Put.result m c),
      ((h c).2 Cert.KernelIdeal.main_arg0
          (Pipeline.mem_restRefs_of Cert.KernelIdeal.main_arg0 (by decide) (by decide))).trans
        (Cert.KernelIdeal.Gen.W_main_arg0 m (Cert.KernelIdeal.Gen.dats m) c)⟩)
    (Cert.KernelIdeal.Gen.run_main m g)

/-- The reference's run: its result buffer ends at the stated result of the argument, and the argument is unchanged. -/
theorem reference_run
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v13)
            = Cert.Put.spec
              (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run _ _ _).mono (fun _ h c => ⟨(h c).1.trans (Cert.Put.scatter_eq _), (h c).2⟩)
    (Cert.ReferenceIdeal.Value.run m g)

/-- The reference's frame: it terminates with the argument unchanged, and it declares no semaphore, so every counter
    is at zero. -/
theorem reference_frame : Cert.quiescent_ReferenceIdeal := by
  intro m g _
  exact (θ_run _ _ _).mono (fun r h => ⟨fun c => (h c).2, sem_eq_zero_of_no_sems (by decide) r.2⟩)
    (reference_run m g)

/-- The idealized kernel and the idealized reference end with equal results. -/
theorem equal_results : Cert.algebraic_KernelIdeal_ReferenceIdeal := by
  intro m g m' g' _ hagree
  refine ⟨fun c => Cert.Put.spec
    (m ((c.tc : Thread Cert.KernelIdeal.nD Cert.KernelIdeal.τ).loc Cert.KernelIdeal.main_arg0)), kernel_run m g, ?_⟩
  exact (θ_run _ _ _).mono (fun _ h c => ⟨(h c).1.trans (congrArg Cert.Put.spec (hagree c)), (h c).2⟩)
    (reference_run m' g')

/-- Everything that the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    equal_results⟩

end Cert.Proof

end
